-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x2048 : Shape := ⟨3, ![4, 4096, 2048]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  bcast_S_S64x2048 : S_.BroadcastsInDim S64x2048 (![] : Fin 0 → Fin S64x2048.rank)

variable [Facts]

def fn {F : FTy → Type} [FloatOps F] (main_arg0 : FVec F S4x4096x2048 .f32) (main_arg1 : FVec F S64x2048 .f32) : IVec S4x4096x2048 1 × IVec S64x2048 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S64x2048 .f32 := Host.absf main_arg1
  let main_cst_0 : FVec F S_ .f32 := constant S_ .f32 0x7F800000#32
  let main_v4 : FVec F S64x2048 .f32 := broadcastInDim S64x2048 ![] bcast_S_S64x2048 main_cst_0
  let main_v5 : IVec S64x2048 1 := cmpf .olt main_v3 main_v4
  (main_v2, main_v5)
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S8x16384 : Shape := ⟨2, ![8, 16384]⟩
abbrev S2048x1024 : Shape := ⟨2, ![2048, 1024]⟩
abbrev S8x2048 : Shape := ⟨2, ![8, 2048]⟩
abbrev S64x1024 : Shape := ⟨2, ![64, 1024]⟩
abbrev S2048 : Shape := ⟨1, ![2048]⟩
abbrev S1x2048 : Shape := ⟨2, ![1, 2048]⟩
abbrev S16384x8 : Shape := ⟨2, ![16384, 8]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S8x16384, .i32⟩
  | .hbm, ⟨4, _⟩ => ⟨S8x16384, .f32⟩
  | .hbm, ⟨5, _⟩ => ⟨S16384x8, .i32⟩
  | .hbm, ⟨6, _⟩ => ⟨S16384x8, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S64x2048, .f32⟩
  | .local _ .vmem, ⟨5, _⟩ => ⟨S8x2048, .i32⟩
  | .local _ .vmem, ⟨6, _⟩ => ⟨S8x2048, .i32⟩
  | .local _ .vmem, ⟨7, _⟩ => ⟨S8x2048, .f32⟩
  | .local _ .vmem, ⟨8, _⟩ => ⟨S8x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x8, .f32⟩
  | .hbm, ⟨20, _⟩ => ⟨S16384x8, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x8, .f32⟩
  | .hbm, ⟨28, _⟩ => ⟨S16384x8, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Ranking.lean ====
/- The mathematics of picking the greatest scores one at a time, free of any program. A list of scores has an order of its
   places: greater score first, and of equal scores the earlier place first. A stable descending sort lists the places in that
   order, and so do rounds that take the greatest score left, at its earliest place, and then overwrite it with −1, as long
   as no score is negative. -/
module

public import Idealize.ShloMosaic.Lib.SortFacts
public import Idealize.ShloMosaic.Lib.SortPrefix
public import Mathlib.Data.EReal.Operations

@[expose] public section

noncomputable section

namespace Cert.Ranking

open Idealize.ShloMosaic

variable {n : Nat}

/-! ## A stable sort of ascending places breaks ties by place -/

/-- Two relations that agree whenever the first argument is the later place sort an ascending list alike. -/
theorem stableSort_eq_of_later (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_eq_of_later R R' h l hl.2]
    exact insertBefore_congr R R' a _ fun b hb => h a b (hl.1 b ((perm_stableSort R' l).mem_iff.mp hb))

/-- Hence they put the same place at every position of the sorted list of all places. -/
theorem sortedFrom_eq_of_later (R R' : Fin n → Fin n → Bool) (h : ∀ a b, a < b → R b a = R' b a) :
    sortedFrom R = sortedFrom R' := by
  have e : sortPositions n R = sortPositions n R' := stableSort_eq_of_later R R' h _ (List.pairwise_lt_finRange n)
  funext k
  unfold sortedFrom
  rw [List.get_of_eq e]
  rfl

/-! ## The order of the places -/

/-- Place `a` comes before place `b`: its score is greater, or the scores are equal and `a` is the earlier place. -/
def ahead (P : Fin n → EReal) (a b : Fin n) : Bool :=
  decide (P b < P a) || (decide (P a = P b) && decide (a < b))

/-- Of two different places exactly one comes before the other, and coming before is transitive. -/
theorem ahead_total (P : Fin n → EReal) : StrictTotalBefore (ahead P) := by
  refine StrictTotalBefore.of_key_then_position (fun x y : EReal => decide (y < x)) P (fun a => by simp)
    (fun a b c hab hbc => ?_) (fun a b => ?_)
  · simp only [decide_eq_true_eq] at hab hbc ⊢
    exact lt_trans hbc hab
  · simp only [decide_eq_true_eq]
    rcases lt_trichotomy a b with h | h | h
    · exact Or.inr (Or.inr h)
    · exact Or.inr (Or.inl h)
    · exact Or.inl h

/-- The place that stands at position `r` in that order. -/
def place (P : Fin n → EReal) (r : Fin n) : Fin n := sortedFrom (ahead P) r

/-- A stable sort of the places by descending score lists them in that order. -/
theorem sortedFrom_descending (P : Fin n → EReal) (R : Fin n → Fin n → Bool) (hR : ∀ a b, R a b = decide (P b < P a))
    (r : Fin n) : sortedFrom R r = place P r := by
  refine congrFun (sortedFrom_eq_of_later R (ahead P) fun a b hab => ?_) r
  rw [hR, ahead, decide_eq_false (not_lt.mpr (le_of_lt hab)), Bool.and_false, Bool.or_false]

/-- No two positions hold the same place. -/
theorem place_injective (P : Fin n → EReal) : Function.Injective (place P) := sortedFrom_injective _

/-- The places at the positions before `r`: those taken by the rounds before round `r`. -/
def Taken (P : Fin n → EReal) (r : Nat) (k : Fin n) : Prop := ∃ j : Fin n, j.val < r ∧ place P j = k

/-- The place at position `r` is not among those at the positions before. -/
theorem not_taken_place (P : Fin n → EReal) (r : Fin n) : ¬ Taken P r.val (place P r) := by
  rintro ⟨j, hj, e⟩
  rw [place_injective P e] at hj
  exact lt_irrefl _ hj

/-- The place at position `r` comes before every other place not yet taken. -/
theorem ahead_place (P : Fin n → EReal) (r k : Fin n) (hk : ¬ Taken P r.val k) (hne : k ≠ place P r) :
    ahead P (place P r) k = true := by
  have hB := ahead_total P
  obtain ⟨j, hj⟩ := sortedFrom_surjective (ahead P) k
  have hjr : r < j := by
    rcases lt_trichotomy j r with h | h | h
    · exact absurd ⟨j, h, hj⟩ hk
    · exact absurd (hj.symm.trans (congrArg _ h)) hne
    · exact h
  have h := sortedFrom_noInversion (ahead P) (ahead P) (fun a b h => hB.asymm a b h) (fun _ _ h => h) hB.negTrans r j hjr
  rw [hj] at h
  rcases hB.total (place P r) k hne.symm with h' | h'
  · exact h'
  · rw [show ahead P k (place P r) = false from h] at h'
    exact absurd h' (by decide)

/-- No place left scores more than the place at position `r`. -/
theorem le_place (P : Fin n → EReal) (r k : Fin n) (hk : ¬ Taken P r.val k) : P k ≤ P (place P r) := by
  by_cases hne : k = place P r
  · rw [hne]
  · have h := ahead_place P r k hk hne
    simp only [ahead, Bool.or_eq_true, Bool.and_eq_true, decide_eq_true_eq] at h
    rcases h with h | h
    · exact le_of_lt h
    · exact le_of_eq h.1.symm

/-- A place left that scores as much as the place at position `r` is not an earlier one. -/
theorem place_le_of_eq (P : Fin n → EReal) (r k : Fin n) (hk : ¬ Taken P r.val k) (he : P k = P (place P r)) :
    place P r ≤ k := by
  by_cases hne : k = place P r
  · rw [hne]
  · have h := ahead_place P r k hk hne
    simp only [ahead, Bool.or_eq_true, Bool.and_eq_true, decide_eq_true_eq, he, lt_irrefl, false_or] at h
    exact le_of_lt h.2

/-! ## The rounds -/

open Classical in
/-- The scores as round `r` finds them: −1 at the places already taken, the given score elsewhere. -/
def left (P : Fin n → EReal) (r : Nat) (k : Fin n) : EReal := if Taken P r k then ((-1 : ℝ) : EReal) else P k

/-- Round 0 finds the scores as given. -/
theorem left_zero (P : Fin n → EReal) (k : Fin n) : left P 0 k = P k :=
  if_neg fun ⟨_, h, _⟩ => absurd h (Nat.not_lt_zero _)

/-- The next round finds −1 at the place that round `r` took, and all else as round `r` found it. -/
theorem left_succ (P : Fin n → EReal) (r k : Fin n) :
    left P (r.val + 1) k = if k = place P r then ((-1 : ℝ) : EReal) else left P r.val k := by
  by_cases hk : k = place P r
  · rw [if_pos hk]
    exact if_pos ⟨r, Nat.lt_succ_self _, hk.symm⟩
  · rw [if_neg hk]
    have hiff : Taken P (r.val + 1) k ↔ Taken P r.val k := by
      constructor
      · rintro ⟨j, hj, e⟩
        rcases Nat.lt_or_ge j.val r.val with h | h
        · exact ⟨j, h, e⟩
        · have : j = r := Fin.ext (by omega)
          exact absurd (e.symm.trans (congrArg _ this)) hk
      · rintro ⟨j, hj, e⟩
        exact ⟨j, Nat.lt_succ_of_lt hj, e⟩
    unfold left
    by_cases ht : Taken P r.val k
    · rw [if_pos ht, if_pos (hiff.mpr ht)]
    · rw [if_neg ht, if_neg fun h => ht (hiff.mp h)]

/-- Round `r` still finds the score of the place at position `r`. -/
theorem left_place (P : Fin n → EReal) (r : Fin n) : left P r.val (place P r) = P (place P r) :=
  if_neg (not_taken_place P r)

variable (P : Fin n → EReal) (hP : ∀ k, 0 ≤ P k)
include hP

/-- −1 is below every score. -/
theorem neg_one_lt (k : Fin n) : ((-1 : ℝ) : EReal) < P k :=
  lt_of_lt_of_le (by exact_mod_cast (by norm_num : (-1 : ℝ) < 0)) (hP k)

/-- Nothing that round `r` finds exceeds the score of the place at position `r`. -/
theorem left_le (r k : Fin n) : left P r.val k ≤ P (place P r) := by
  unfold left
  by_cases hk : Taken P r.val k
  · rw [if_pos hk]
    exact le_of_lt (neg_one_lt P hP _)
  · rw [if_neg hk]
    exact le_place P r k hk

/-- The greatest score that round `r` finds is that of the place at position `r`. -/
theorem greatest_left (r : Fin n) : Finset.univ.fold max ⊥ (fun k => left P r.val k) = P (place P r) := by
  refine le_antisymm ?_ ?_
  · rw [Finset.fold_max_le]
    exact ⟨bot_le, fun k _ => left_le P hP r k⟩
  · rw [Finset.le_fold_max]
    exact Or.inr ⟨place P r, Finset.mem_univ _, (left_place P r).ge⟩

/-- A place that round `r` finds with the greatest score is not an earlier one than the place at position `r`. -/
theorem place_le_of_left_eq (r k : Fin n) (he : left P r.val k = P (place P r)) : place P r ≤ k := by
  by_cases hk : Taken P r.val k
  · rw [left, if_pos hk] at he
    exact absurd he (ne_of_lt (neg_one_lt P hP _))
  · rw [left, if_neg hk] at he
    exact place_le_of_eq P r k hk he

/-- The least number of a place with the greatest score, every other place counting as `cap`, is the number of the place at
    position `r`. -/
theorem earliest_left (r : Fin n) (cap : EReal) (hcap : ((n : ℝ) : EReal) ≤ cap) :
    Finset.univ.fold min ⊤ (fun k : Fin n => if left P r.val k = P (place P r) then ((k.val : ℝ) : EReal) else cap)
      = (((place P r).val : ℝ) : EReal) := by
  refine le_antisymm ?_ ?_
  · rw [Finset.fold_min_le]
    exact Or.inr ⟨place P r, Finset.mem_univ _, by rw [if_pos (left_place P r)]⟩
  · rw [Finset.le_fold_min]
    refine ⟨le_top, fun k _ => ?_⟩
    by_cases he : left P r.val k = P (place P r)
    · rw [if_pos he]
      have h := place_le_of_left_eq P hP r k he
      exact_mod_cast (Nat.cast_le (α := ℝ)).mpr h
    · rw [if_neg he]
      refine le_trans ?_ hcap
      exact_mod_cast (Nat.cast_le (α := ℝ)).mpr (le_of_lt (place P r).isLt)

end Cert.Ranking

end
-- ==== Proof.Rounds.lean ====
/- One block of the kernel's selection: 64 scores in each of 2048 columns, and the rounds that pick from them. -/
module

public import proofs.«01_k».proof.Proof.Ranking
public import proofs.«01_k».proof.Proof.Gen.KernelIdeal.Skeleton
public import Idealize.ShloMosaic.Lib.Pointwise

@[expose] public section

set_option maxRecDepth 16384

noncomputable section

namespace Cert.Rounds

open Idealize.ShloMosaic Cert.KernelIdeal Cert.KernelIdeal.Gen Cert.Ranking

/-- The greatest score of every column. -/
def greatest (s : FVec Ideal S64x2048 .f32) : FVec Ideal S1x2048 .f32 :=
  shapeCast S1x2048 (multiReduction .maximumf [0] S2048 s 0xFF800000#32 reduces_S64x2048_S2048 (.inl rfl) rfl)
    shapeCasts_S2048_S1x2048

/-- Each row's number where the row holds its column's greatest score, 64 elsewhere. -/
def tied (s : FVec Ideal S64x2048 .f32) : FVec Ideal S64x2048 .f32 :=
  select (cmpf .oeq s (broadcastTo S64x2048 (greatest s) broadcasts_S1x2048_S64x2048)) (k0_pay10 (F := Ideal))
    (broadcast S64x2048 (Scalar.ofBits .f32 0x42800000#32))

/-- The number of the first row that holds the greatest score, in every column. -/
def earliest (s : FVec Ideal S64x2048 .f32) : FVec Ideal S1x2048 .f32 :=
  shapeCast S1x2048 (multiReduction .minimumf [0] S2048 (tied s) 0x7F800000#32 reduces_S64x2048_S2048 (.inl rfl) rfl)
    shapeCasts_S2048_S1x2048

/-- The scores with −1 written over that row's, in every column. -/
def struck (s : FVec Ideal S64x2048 .f32) : FVec Ideal S64x2048 .f32 :=
  select (cmpf .oeq (k0_pay10 (F := Ideal)) (broadcastTo S64x2048 (earliest s) broadcasts_S1x2048_S64x2048))
    (broadcast S64x2048 (Scalar.ofBits .f32 0xBF800000#32)) s

/-- The scores after `r` rounds. -/
def after (s : FVec Ideal S64x2048 .f32) : Nat → FVec Ideal S64x2048 .f32
  | 0 => s
  | r + 1 => struck (after s r)

/-! ## The constants -/

/-- The maximum starts from −∞. -/
theorem neg_inf : Ideal.ofBits .f32 0xFF800000#32 = (⊥ : EReal) := by simp [Ideal.ofBits, Ideal.ieee]

/-- The minimum starts from +∞. -/
theorem pos_inf : Ideal.ofBits .f32 0x7F800000#32 = (⊤ : EReal) := by simp [Ideal.ofBits, Ideal.ieee]

/-- The number that stands for no row. -/
theorem sixty_four : Ideal.ofBits .f32 0x42800000#32 = ((64 : ℝ) : EReal) := by
  simp [Ideal.ofBits, Ideal.ieee]
  rw [← EReal.coe_mul]
  norm_num

/-- What is written over a score that has been taken. -/
theorem minus_one : Ideal.ofBits .f32 0xBF800000#32 = ((-1 : ℝ) : EReal) := by
  simp [Ideal.ofBits, Ideal.ieee]
  rw [← EReal.coe_mul]
  norm_num

/-! ## One round, read at a column -/

/-- The greatest score of column `l`. -/
theorem greatest_apply (s : FVec Ideal S64x2048 .f32) (l : Fin 2048) :
    greatest s (ix2 0 l) = Finset.univ.fold max ⊥ (fun k : Fin 64 => s (ix2 k l)) := by
  unfold greatest
  pointwise
  rw [neg_inf]

/-- Row `k` carries the number `k`. -/
theorem number_apply (k : Fin 64) (l : Fin 2048) : k0_pay10 (F := Ideal) (ix2 k l) = ((k.val : ℝ) : EReal) := by
  unfold k0_pay10
  pointwise
  have h : (BitVec.ofNat 32 k.val).toInt = (k.val : ℤ) := by
    rw [BitVec.toInt_eq_toNat_cond, BitVec.toNat_ofNat]
    split <;> omega
  show (((BitVec.ofNat 32 k.val).toInt : ℝ) : EReal) = _
  rw [h, Int.cast_natCast]

/-- Row `k`'s number if it holds the greatest score of column `l`, otherwise 64. -/
theorem tied_apply (s : FVec Ideal S64x2048 .f32) (k : Fin 64) (l : Fin 2048) :
    tied s (ix2 k l) = if s (ix2 k l) = greatest s (ix2 0 l) then ((k.val : ℝ) : EReal) else ((64 : ℝ) : EReal) := by
  unfold tied
  pointwise
  rw [number_apply, sixty_four]

/-- The least such number of column `l`. -/
theorem earliest_apply (s : FVec Ideal S64x2048 .f32) (l : Fin 2048) :
    earliest s (ix2 0 l) = Finset.univ.fold min ⊤ (fun k : Fin 64 => tied s (ix2 k l)) := by
  unfold earliest
  pointwise
  rw [pos_inf]

/-- The round leaves −1 in the row whose number that is, and every other row alone. -/
theorem struck_apply (s : FVec Ideal S64x2048 .f32) (k : Fin 64) (l : Fin 2048) :
    struck s (ix2 k l) = if ((k.val : ℝ) : EReal) = earliest s (ix2 0 l) then ((-1 : ℝ) : EReal) else s (ix2 k l) := by
  unfold struck
  pointwise
  rw [number_apply, minus_one]

/-! ## All rounds -/

/-- The greatest score found by a round that finds the scores `left P r` in column `l`. -/
theorem greatest_of_left (s : FVec Ideal S64x2048 .f32) (l : Fin 2048) (P : Fin 64 → EReal) (hP : ∀ k, 0 ≤ P k)
    (r : Fin 64) (hs : ∀ k, s (ix2 k l) = left P r.val k) : greatest s (ix2 0 l) = P (place P r) := by
  rw [greatest_apply]
  simp only [hs]
  exact greatest_left P hP r

/-- The row picked by such a round. -/
theorem earliest_of_left (s : FVec Ideal S64x2048 .f32) (l : Fin 2048) (P : Fin 64 → EReal) (hP : ∀ k, 0 ≤ P k)
    (r : Fin 64) (hs : ∀ k, s (ix2 k l) = left P r.val k) :
    earliest s (ix2 0 l) = (((place P r).val : ℝ) : EReal) := by
  rw [earliest_apply]
  simp only [tied_apply, greatest_of_left s l P hP r hs, hs]
  exact earliest_left P hP r _ (le_of_eq (by norm_num))

/-- What such a round leaves. -/
theorem struck_of_left (s : FVec Ideal S64x2048 .f32) (l : Fin 2048) (P : Fin 64 → EReal) (hP : ∀ k, 0 ≤ P k)
    (r : Fin 64) (hs : ∀ k, s (ix2 k l) = left P r.val k) (k : Fin 64) :
    struck s (ix2 k l) = left P (r.val + 1) k := by
  rw [struck_apply, left_succ, earliest_of_left s l P hP r hs, hs]
  have e : (((k.val : ℝ) : EReal) = (((place P r).val : ℝ) : EReal)) ↔ k = place P r := by
    rw [EReal.coe_eq_coe_iff, Nat.cast_inj, Fin.val_inj]
  simp only [e]

/-- After `r` rounds column `l` holds −1 in the `r` places of the highest rank and its own scores elsewhere. -/
theorem after_apply (s : FVec Ideal S64x2048 .f32) (l : Fin 2048) (P : Fin 64 → EReal) (hP : ∀ k, 0 ≤ P k)
    (hs : ∀ k, s (ix2 k l) = P k) : ∀ (r : Nat), r ≤ 64 → ∀ k, after s r (ix2 k l) = left P r k
  | 0, _, k => (hs k).trans (left_zero P k).symm
  | r + 1, h, k => struck_of_left _ l P hP ⟨r, h⟩ (after_apply s l P hP hs r (Nat.le_of_lt h)) k

/-- Round `r` finds, as the greatest score of column `l`, the score of the place of rank `r`. -/
theorem greatest_after (s : FVec Ideal S64x2048 .f32) (l : Fin 2048) (P : Fin 64 → EReal) (hP : ∀ k, 0 ≤ P k)
    (hs : ∀ k, s (ix2 k l) = P k) (r : Fin 64) : greatest (after s r.val) (ix2 0 l) = P (place P r) :=
  greatest_of_left _ l P hP r (after_apply s l P hP hs r.val (le_of_lt r.isLt))

/-- Round `r` picks, in column `l`, the place of rank `r`. -/
theorem earliest_after (s : FVec Ideal S64x2048 .f32) (l : Fin 2048) (P : Fin 64 → EReal) (hP : ∀ k, 0 ≤ P k)
    (hs : ∀ k, s (ix2 k l) = P k) (r : Fin 64) :
    earliest (after s r.val) (ix2 0 l) = (((place P r).val : ℝ) : EReal) :=
  earliest_of_left _ l P hP r (after_apply s l P hP hs r.val (le_of_lt r.isLt))

end Cert.Rounds

end
-- ==== Proof.Softmax.lean ====
/- The softmax of a list of 64 logits on the extended reals: the exponential of each logit less the greatest, over the sum of
   all of them. Where the logits are real no score is negative. -/
module

public import Idealize.ShloMosaic.PureOps.Ideal

@[expose] public section

noncomputable section

namespace Cert.Softmax

open Idealize.ShloMosaic

/-- The greatest logit. -/
def top (L : Fin 64 → EReal) : EReal := Finset.univ.fold max ⊥ L

/-- The sum of the exponentials of the logits, each less the greatest. -/
def total (L : Fin 64 → EReal) : EReal := ∑ j : Fin 64, Ideal.exp (L j - top L)

/-- The softmax of the logits `L` at `k`. -/
def score (L : Fin 64 → EReal) (k : Fin 64) : EReal := Ideal.div (Ideal.exp (L k - top L)) (total L)

/-- The exponential is never negative. -/
theorem exp_nonneg : ∀ x : EReal, 0 ≤ Ideal.exp x
  | none => le_refl _
  | some none => le_top
  | some (some r) => EReal.coe_nonneg.mpr (Real.exp_pos r).le

/-- Some logit is the greatest, if every logit is real. -/
theorem exists_top (L : Fin 64 → EReal) (hL : ∀ k, ∃ a : ℝ, L k = (a : EReal)) : ∃ k, L k = top L := by
  have h : top L ≤ top L := le_refl _
  conv at h => rhs; unfold top
  rw [Finset.le_fold_max] at h
  have hle : ∀ k, L k ≤ top L := fun k => by
    unfold top
    rw [Finset.le_fold_max]
    exact Or.inr ⟨k, Finset.mem_univ _, le_refl _⟩
  rcases h with h | ⟨k, -, h⟩
  · obtain ⟨a, ha⟩ := hL 0
    have h0 := (hle 0).trans h
    rw [ha] at h0
    exact absurd (le_bot_iff.mp h0) (EReal.coe_ne_bot a)
  · exact ⟨k, le_antisymm (hle k) h⟩

/-- The sum is positive, if every logit is real: the greatest logit alone adds 1. -/
theorem total_pos (L : Fin 64 → EReal) (hL : ∀ k, ∃ a : ℝ, L k = (a : EReal)) : 0 < total L := by
  obtain ⟨k, hk⟩ := exists_top L hL
  obtain ⟨a, ha⟩ := hL k
  have h1 : Ideal.exp (L k - top L) = 1 := by
    rw [← hk, ha, ← EReal.coe_sub, sub_self]
    show ((Real.exp 0 : ℝ) : EReal) = 1
    rw [Real.exp_zero]
    rfl
  have h2 : Ideal.exp (L k - top L) ≤ total L :=
    Finset.single_le_sum (f := fun j => Ideal.exp (L j - top L)) (fun j _ => exp_nonneg _) (Finset.mem_univ k)
  rw [h1] at h2
  exact lt_of_lt_of_le zero_lt_one h2

/-- No score is negative, if every logit is real. -/
theorem score_nonneg (L : Fin 64 → EReal) (hL : ∀ k, ∃ a : ℝ, L k = (a : EReal)) (k : Fin 64) : 0 ≤ score L k := by
  have h := total_pos L hL
  unfold score Ideal.div
  rw [if_neg (ne_of_gt h)]
  exact mul_nonneg (exp_nonneg _) (EReal.inv_nonneg_of_nonneg h.le)

end Cert.Softmax

end
-- ==== Proof.Block.lean ====
/- What one grid point of the kernel computes from its two blocks of tokens and the weight: at rank `r` and token `l`, the
   number of the expert of rank `r` and its share of the eight greatest scores. -/
module

public import proofs.«01_k».proof.Proof.Rounds
public import proofs.«01_k».proof.Proof.Softmax
public import proofs.«01_k».proof.Proof.Gen.KernelIdeal.Frame
public import Idealize.ShloMosaic.Lib.Pipeline.ValueKit

@[expose] public section

set_option maxRecDepth 16384

noncomputable section

namespace Cert.Block

open Idealize.ShloMosaic Cert.KernelIdeal Cert.KernelIdeal.Gen Cert.Ranking Cert.Rounds Cert.Softmax

/-! ## What a token's row of the results holds -/

/-- The number of the expert of rank `r` by the softmax of the logits `L`. -/
def expert (L : Fin 64 → EReal) (r : Fin 8) : BitVec 32 :=
  BitVec.ofNat 32 (place (score L) (r.castLE (by decide))).val

/-- The score of that expert. -/
def best (L : Fin 64 → EReal) (r : Fin 8) : EReal := score L (place (score L) (r.castLE (by decide)))

/-- That score over the sum of the eight greatest and a small constant. -/
def share (L : Fin 64 → EReal) (r : Fin 8) : EReal :=
  Ideal.div (best L r) ((∑ j : Fin 8, best L j) + Ideal.ofBits .f32 0x1E3CE508#32)

/-! ## The block of scores -/

variable (xa xb : FVec Ideal S2048x1024 .f32) (w : FVec Ideal S64x2048 .f32)

/-- The logits of token `l`: the two halves of each product, added. -/
def logits (l : Fin 2048) (e : Fin 64) : EReal :=
  (∑ k : Fin 1024, w (ix2 e ⟨k.val, by omega⟩) * xa (ix2 l k)) + ∑ k : Fin 1024, w (ix2 e ⟨1024 + k.val, by omega⟩) * xb (ix2 l k)

/-- The block that the rounds start from holds the softmax of every token's logits. -/
theorem scores_apply (e : Fin 64) (l : Fin 2048) :
    k0_pay9 (F := Ideal) w xa xb (ix2 e l) = score (logits xa xb w l) e := by
  unfold k0_pay9
  pointwise
  rw [neg_inf]
  rfl

/-! ## The rows stacked -/

/-- Eight rows, one above the other. -/
def stack (f : Nat → FVec Ideal S1x2048 .f32) : FVec Ideal S8x2048 .f32 :=
  concatenate S8x2048 0 [⟨S1x2048, f 0⟩, ⟨S1x2048, f 1⟩, ⟨S1x2048, f 2⟩, ⟨S1x2048, f 3⟩, ⟨S1x2048, f 4⟩, ⟨S1x2048, f 5⟩,
    ⟨S1x2048, f 6⟩, ⟨S1x2048, f 7⟩]
    concatenates_S1x2048_S1x2048_S1x2048_S1x2048_S1x2048_S1x2048_S1x2048_S1x2048_S8x2048_d0

/-- Row `r` of the stack is the `r`-th of the rows. -/
theorem stack_apply (f : Nat → FVec Ideal S1x2048 .f32) (r : Fin 8) (l : Fin 2048) :
    stack f (ix2 r l) = f r.val (ix2 0 l) := by
  unfold stack
  fin_cases r <;> pointwise <;> rfl

/-! ## The two results of a grid point -/

/-- A number below 64, turned from a float to a word, is that number's word. -/
theorem word_of (n : Nat) (h : n < 64) : Ideal.fptosi 32 ((n : ℝ) : EReal) = BitVec.ofNat 32 n := by
  rw [Ideal.fptosi, Ideal.toIntClamped_coe, if_pos (Nat.cast_nonneg n), Int.floor_natCast, min_eq_right (by omega),
    max_eq_right (by omega), BitVec.ofInt_natCast]

/-- The rows picked by eight rounds from the block `s`, as words. -/
def picked (s : FVec Ideal S64x2048 .f32) : IVec S8x2048 32 := fptosi 32 (stack fun r => earliest (after s r))

/-- The scores found by eight rounds from the block `s`, each over their sum and a small constant. -/
def shares (s : FVec Ideal S64x2048 .f32) : FVec Ideal S8x2048 .f32 :=
  divf (stack fun r => greatest (after s r))
    (broadcastTo S8x2048
      (addf
        (shapeCast S1x2048
          (multiReduction .add [0] S2048 (stack fun r => greatest (after s r)) 0x00000000#32 reduces_S8x2048_S2048 (.inl rfl) rfl)
          shapeCasts_S2048_S1x2048)
        (broadcast S1x2048 (Scalar.ofBits .f32 0x1E3CE508#32)))
      broadcasts_S1x2048_S8x2048)

/-- The kernel stores the rows picked from its block of scores as its first result. -/
theorem out3_eq (x0 x1 : Vec Ideal S2048x1024 .f32) (x2 : Vec Ideal S64x2048 .f32) :
    out0_3 x0 x1 x2 = picked (k0_pay9 x2 x0 x1) := by
  unfold_out out0_3
  frame_out
  rfl

/-- It stores the shares found in its block of scores as its second result. -/
theorem out4_eq (x0 x1 : Vec Ideal S2048x1024 .f32) (x2 : Vec Ideal S64x2048 .f32) :
    out0_4 x0 x1 x2 = shares (k0_pay9 x2 x0 x1) := by
  unfold_out out0_4
  frame_out
  rfl

/-- At rank `r` and token `l` the first result is the number of the expert of that rank, where the token's logits are real. -/
theorem picked_apply (r : Fin 8) (l : Fin 2048) (hL : ∀ e, ∃ a : ℝ, logits xa xb w l e = (a : EReal)) :
    picked (k0_pay9 w xa xb) (ix2 r l) = expert (logits xa xb w l) r := by
  have h := earliest_after (k0_pay9 w xa xb) l (score (logits xa xb w l)) (score_nonneg _ hL)
    (fun k => scores_apply xa xb w k l) (r.castLE (by decide))
  unfold picked
  pointwise
  rw [stack_apply]
  exact (congrArg (Ideal.fptosi 32) h).trans (word_of _ (Fin.isLt _))

/-- At rank `r` and token `l` the second result is the share of the expert of that rank, where the token's logits are real. -/
theorem shares_apply (r : Fin 8) (l : Fin 2048) (hL : ∀ e, ∃ a : ℝ, logits xa xb w l e = (a : EReal)) :
    shares (k0_pay9 w xa xb) (ix2 r l) = share (logits xa xb w l) r := by
  have h : ∀ j : Fin 8, stack (fun r => greatest (after (k0_pay9 w xa xb) r)) (ix2 j l) = best (logits xa xb w l) j :=
    fun j => (stack_apply _ j l).trans (greatest_after (k0_pay9 w xa xb) l (score (logits xa xb w l)) (score_nonneg _ hL)
      (fun k => scores_apply xa xb w k l) (j.castLE (by decide)))
  unfold shares
  pointwise
  simp only [h]
  rfl

end Cert.Block

end
-- ==== Proof.Logits.lean ====
/- A token's logits: the products of its row with the rows of the weight. A sum of products of reals is real. -/
module

public import Idealize.ShloMosaic.Lib.Pointwise
public import Idealize.ShloMosaic.PureOps.Ideal

@[expose] public section

noncomputable section

namespace Cert.Logits

open Idealize.ShloMosaic

/-- The logit of expert `e` for token `t`: the product of the token's row and the expert's. -/
def logit (H : FVec Ideal ⟨2, ![16384, 2048]⟩ .f32) (W : FVec Ideal ⟨2, ![64, 2048]⟩ .f32) (t : Fin 16384) (e : Fin 64) : EReal :=
  ∑ k : Fin 2048, H (ix2 t k) * W (ix2 e k)

/-- A finite sum of real numbers is real. -/
theorem sum_real {n : Nat} (f : Fin n → EReal) (hf : ∀ k, ∃ a : ℝ, f k = (a : EReal)) : ∃ a : ℝ, ∑ k, f k = (a : EReal) := by
  refine Finset.sum_induction f (fun x => ∃ a : ℝ, x = (a : EReal)) ?_ ⟨0, rfl⟩ fun k _ => hf k
  rintro x y ⟨a, rfl⟩ ⟨b, rfl⟩
  exact ⟨a + b, (EReal.coe_add a b).symm⟩

/-- Where every entry of the tokens and the weight is real, so is every logit. -/
theorem logit_real (H : FVec Ideal ⟨2, ![16384, 2048]⟩ .f32) (W : FVec Ideal ⟨2, ![64, 2048]⟩ .f32)
    (hH : ∀ i, ∃ a : ℝ, H i = (a : EReal)) (hW : ∀ i, ∃ a : ℝ, W i = (a : EReal)) (t : Fin 16384) (e : Fin 64) :
    ∃ a : ℝ, logit H W t e = (a : EReal) := by
  refine sum_real _ fun k => ?_
  obtain ⟨a, ha⟩ := hH (ix2 t k)
  obtain ⟨b, hb⟩ := hW (ix2 e k)
  exact ⟨a * b, by rw [ha, hb, EReal.coe_mul]⟩

/-- A sum over 2048 places is the sum over the first 1024 and the sum over the rest. -/
theorem sum_halves (f : Fin 2048 → EReal) :
    (∑ k : Fin 1024, f ⟨k.val, by omega⟩) + ∑ k : Fin 1024, f ⟨1024 + k.val, by omega⟩ = ∑ k, f k :=
  (Fin.sum_univ_add (a := 1024) (b := 1024) (f := f)).symm

end Cert.Logits

end
-- ==== Proof.Arrays.lean ====
/- What the kernel's two arrays hold after the grid's last point, in terms of its arguments: at rank `r` and token `t`, the
   number and the share of the token's expert of rank `r`. -/
module

public import proofs.«01_k».proof.Proof.Block
public import proofs.«01_k».proof.Proof.Logits
public import Idealize.ShloMosaic.Lib.Pipeline.ValueKit
public import Idealize.ShloMosaic.Lib.Claim

@[expose] public section

set_option maxRecDepth 16384

noncomputable section

namespace Cert.Arrays

open Idealize.ShloMosaic Idealize.ShloMosaic.TcCoe Idealize.SL.Sem Cert.KernelIdeal Cert.KernelIdeal.Gen Cert.Block Cert.Logits
open Idealize.ShloMosaic.Pipeline (Dat)

variable (m : (ℓ : Loc nD τ sig) → Buf (Elt Ideal) ℓ) (c : Dev nD)

/-- The tokens, as one row each. -/
def tokens : FVec Ideal S16384x2048 .f32 :=
  shapeCast S16384x2048 (m ((c.tc : Thread nD τ).loc main_arg0)) shapeCasts_S4x4096x2048_S16384x2048

/-- The weight, one row for each expert. -/
def weight : FVec Ideal S64x2048 .f32 := m ((c.tc : Thread nD τ).loc main_arg1)

/-- Where each window's block lies in its array. -/
theorem idx : ∀ t : Fin cfg0.N, win0_0.index t = ![t.val, 0] ∧ win0_1.index t = ![t.val, 1] ∧ win0_2.index t = ![0, 0]
    ∧ win0_3.index t = ![0, t.val] ∧ win0_4.index t = ![0, t.val] ∧ t.val < 8 :=
  (by decide +kernel : ∀ t : Fin grid0.N, _)

/-- The token that stands at place `l` of point `t`. -/
def tok (t : Fin cfg0.N) (l : Fin 2048) : Fin 16384 := ⟨t.val * 2048 + l.val, by have := (idx t).2.2.2.2.2; omega⟩

/-- The array that the first two windows read holds the tokens. -/
theorem entry_tokens : V m c main_v0 = tokens m c := by
  entry_read
  rfl

/-- The first window's block holds the first halves of its tokens' rows. -/
theorem first_half (t : Fin cfg0.N) (l : Fin 2048) (k : Fin 1024) :
    (iblk m c 0 t : FVec Ideal S2048x1024 .f32) (ix2 l k) = tokens m c (ix2 (tok t l) ⟨k.val, by omega⟩) := by
  blk_simp [iblk]
  rw [entry_tokens]
  blk_ext [idx t, tok]

/-- The second window's block holds the second halves. -/
theorem second_half (t : Fin cfg0.N) (l : Fin 2048) (k : Fin 1024) :
    (iblk m c 1 t : FVec Ideal S2048x1024 .f32) (ix2 l k) = tokens m c (ix2 (tok t l) ⟨1024 + k.val, by omega⟩) := by
  blk_simp [iblk]
  rw [entry_tokens]
  blk_ext [idx t, tok]

/-- The third window's block is the whole weight. -/
theorem whole (t : Fin cfg0.N) : (iblk m c 2 t : FVec Ideal S64x2048 .f32) = weight m c := by
  unfold weight
  blk_ext! [iblk, V, idx t]

/-- The logits that point `t` computes for its token at place `l` are that token's. -/
theorem logits_eq (t : Fin cfg0.N) (l : Fin 2048) :
    logits (iblk m c 0 t) (iblk m c 1 t) (iblk m c 2 t) l = logit (tokens m c) (weight m c) (tok t l) := by
  funext e
  unfold logits logit
  rw [whole]
  simp only [first_half, second_half]
  rw [← sum_halves]
  simp only [mul_comm (weight m c _)]

/-- The array of expert numbers as the kernel leaves it. -/
def numbers : IVec S8x16384 32 := fun j => expert (logit (tokens m c) (weight m c) (j 1)) (j 0)

/-- The array of shares as the kernel leaves it. -/
def portions : FVec Ideal S8x16384 .f32 := fun j => share (logit (tokens m c) (weight m c) (j 1)) (j 0)

/-- An index of a block of results is a rank and a place. -/
theorem split (y : S8x2048.Idx) : ∃ (r : Fin 8) (l : Fin 2048), y = ix2 r l := ⟨y 0, y 1, by blk_ext⟩

/-- The block of numbers of point `t` lies where the array has that point's tokens. -/
theorem lies3 (t : Fin cfg0.N) (r : Fin 8) (l : Fin 2048) :
    ((((cfg0.win 3).blk t).view.emb (ix2 r l : S8x2048.Idx)) : S8x16384.Idx) = ix2 r (tok t l) := by
  blk_ext [idx t, tok]

/-- So does the block of shares. -/
theorem lies4 (t : Fin cfg0.N) (r : Fin 8) (l : Fin 2048) :
    ((((cfg0.win 4).blk t).view.emb (ix2 r l : S8x2048.Idx)) : S8x16384.Idx) = ix2 r (tok t l) := by
  blk_ext [idx t, tok]

variable (hX : ∀ i, ∃ a : ℝ, tokens m c i = (a : EReal)) (hW : ∀ i, ∃ a : ℝ, weight m c i = (a : EReal))
include hX hW

/-- The logits that point `t` computes are real, where tokens and weight are. -/
theorem logits_real (t : Fin cfg0.N) (l : Fin 2048) (e : Fin 64) :
    ∃ a : ℝ, logits (iblk m c 0 t) (iblk m c 1 t) (iblk m c 2 t) l e = (a : EReal) := by
  rw [logits_eq]
  exact logit_real _ _ hX hW _ e

/-- What point `t` stores in its block of numbers is what the array holds where the block lies. -/
theorem point3 (t : Fin cfg0.N) (y : S8x2048.Idx) :
    picked (k0_pay9 (F := Ideal) (iblk m c 2 t) (iblk m c 0 t) (iblk m c 1 t)) y
      = numbers m c (((cfg0.win 3).blk t).view.emb y) := by
  obtain ⟨r, l, rfl⟩ := split y
  refine (picked_apply (iblk m c 0 t) (iblk m c 1 t) (iblk m c 2 t) r l (logits_real m c hX hW t l)).trans ?_
  rw [logits_eq]
  exact (congrArg (numbers m c) (lies3 t r l)).symm

/-- What point `t` stores in its block of shares is what the array holds where the block lies. -/
theorem point4 (t : Fin cfg0.N) (y : S8x2048.Idx) :
    shares (k0_pay9 (F := Ideal) (iblk m c 2 t) (iblk m c 0 t) (iblk m c 1 t)) y
      = portions m c (((cfg0.win 4).blk t).view.emb y) := by
  obtain ⟨r, l, rfl⟩ := split y
  refine (shares_apply (iblk m c 0 t) (iblk m c 1 t) (iblk m c 2 t) r l (logits_real m c hX hW t l)).trans ?_
  rw [logits_eq]
  exact (congrArg (portions m c) (lies4 t r l)).symm

/-- The array of numbers after the grid's last point, where tokens and weight are real. -/
theorem final3 : (dats m 0 c).arrAt 3 (cfgs 0).N = numbers m c := by
  refine (dats m 0 c).arrAt_eq_of_covers 3 _ (by decide +kernel) fun t _ y => ?_
  blk_simp
  rw [after0_3, out3_eq]
  exact point3 m c hX hW t y

/-- The array of shares after the grid's last point, where tokens and weight are real. -/
theorem final4 : (dats m 0 c).arrAt 4 (cfgs 0).N = portions m c := by
  refine (dats m 0 c).arrAt_eq_of_covers 4 _ (by decide +kernel) fun t _ y => ?_
  blk_simp
  rw [after0_4, out4_eq]
  exact point4 m c hX hW t y

end Cert.Arrays

end
-- ==== Proof.Finite.lean ====
/- The precondition, read entry by entry: every entry of both arguments is a real number. -/
module

public import proofs.«01_k».proof.Pre_finite
public import proofs.«01_k».proof.Proof.Rounds
public import Idealize.ShloMosaic.Lib.Pointwise

@[expose] public section

set_option maxRecDepth 16384

noncomputable section

namespace Cert.Finite

open Idealize.ShloMosaic Cert.Pre_finite

/-- A constant may be broadcast to the shape of either argument. -/
theorem facts : Cert.Pre_finite.Facts :=
  ⟨⟨by decide, fun a => a.elim0⟩, ⟨by decide, fun a => a.elim0⟩⟩

/-- An extended real whose magnitude is below +∞ is real. -/
theorem real_of_abs (x : EReal) (h : max x (-x) < ⊤) : ∃ a : ℝ, x = (a : EReal) := by
  induction x with
  | bot => exact absurd h (by simp)
  | coe a => exact ⟨a, rfl⟩
  | top => exact absurd h (by simp)

/-- Where the precondition's words are all 1, every entry of both arguments is real. -/
theorem reals [hPre : Facts] (X : FVec Ideal S4x4096x2048 .f32) (W : FVec Ideal S64x2048 .f32)
    (h : (fn X W).1 = (fun _ => 1#1) ∧ (fn X W).2 = (fun _ => 1#1)) :
    (∀ i, ∃ a : ℝ, X i = (a : EReal)) ∧ ∀ i, ∃ a : ℝ, W i = (a : EReal) := by
  have word : ∀ x : EReal, BitVec.ofBool (decide (max x (-x) < ⊤)) = 1#1 → ∃ a : ℝ, x = (a : EReal) := fun x hx => by
    by_cases hlt : max x (-x) < ⊤
    · exact real_of_abs x hlt
    · rw [decide_eq_false hlt] at hx
      exact absurd hx (by decide)
  refine ⟨fun i => word (X i) ?_, fun i => word (W i) ?_⟩
  · have e : (fn X W).1 i = 1#1 := congrFun h.1 i
    unfold fn at e
    rw [← Rounds.pos_inf]
    exact e
  · have e : (fn X W).2 i = 1#1 := congrFun h.2 i
    unfold fn at e
    rw [← Rounds.pos_inf]
    exact e

end Cert.Finite

end
-- ==== Proof.Reference.lean ====
/- What the reference computes, in terms of its arguments: at token `t` and rank `r`, the number and the share of the token's
   expert of rank `r`. -/
module

public import proofs.«01_k».proof.Proof.Block
public import proofs.«01_k».proof.Proof.Logits
public import proofs.«01_k».proof.Proof.Gen.ReferenceIdeal
public import proofs.«01_k».proof.Proof.Gen.ReferenceIdeal.Run

@[expose] public section

set_option maxRecDepth 16384

noncomputable section

namespace Cert.Reference

open Idealize.ShloMosaic Idealize.ShloMosaic.TcCoe Cert.ReferenceIdeal Cert.ReferenceIdeal.Gen Cert.Block Cert.Logits Cert.Ranking Cert.Softmax

/-! ## The eight greatest of a row -/

/-- The eight greatest of every row of `Q`, greatest first, and the places they stand at. -/
def chosen (Q : FVec Ideal S16384x64 .f32) : FVec Ideal S16384x8 .f32 × IVec S16384x8 32 :=
  Host.topK S16384x8 1 (FloatOps.cmpfTotal .gt) Q sliceFits_S16384x64_S16384x8

/-- Moving along row `t` to place `k`. -/
theorem along_row (t : Fin 16384) (a k : Fin 64) : (ix2 t a : S16384x64.Idx).along (1 : Fin 2) k = ix2 t k := by
  funext d
  fin_cases d <;> rfl

/-- The stable sort of row `t` by "greater" puts the place of rank `r` at position `r`. -/
theorem sorted_row (Q : FVec Ideal S16384x64 .f32) (t : Fin 16384) (r : Fin 64) :
    sortedFrom (n := 64) (fun k k' => FloatOps.cmpfTotal (F := Ideal) (φ := .f32) CmpDirection.gt
      (Q ((ix2 t r : S16384x64.Idx).along (1 : Fin 2) k)) (Q ((ix2 t r : S16384x64.Idx).along (1 : Fin 2) k')) == 1#1) r
      = place (fun e => Q (ix2 t e)) r := by
  refine sortedFrom_descending (fun e => Q (ix2 t e)) _ (fun a b => ?_) r
  rw [along_row, along_row]
  show (BitVec.ofBool (decide (Q (ix2 t b) < Q (ix2 t a))) == 1#1) = _
  by_cases h : Q (ix2 t b) < Q (ix2 t a)
  · rw [decide_eq_true h]
    rfl
  · rw [decide_eq_false h]
    rfl

/-- The value at rank `r` of row `t` is the row's at the place of that rank. -/
theorem chosen_value (Q : FVec Ideal S16384x64 .f32) (t : Fin 16384) (r : Fin 8) :
    (chosen Q).1 (ix2 t r) = Q (ix2 t (place (fun e => Q (ix2 t e)) (r.castLE (by decide)))) := by
  unfold chosen Host.topK Host.sort2
  pointwise
  exact (congrArg (fun k => Q ((ix2 t (r.castLE (by decide)) : S16384x64.Idx).along (1 : Fin 2) k))
    (sorted_row Q t (r.castLE (by decide)))).trans (congrArg Q (along_row t _ _))

/-- The place at rank `r` of row `t`, as a word. -/
theorem chosen_place (Q : FVec Ideal S16384x64 .f32) (t : Fin 16384) (r : Fin 8) :
    (chosen Q).2 (ix2 t r) = BitVec.ofNat 32 (place (fun e => Q (ix2 t e)) (r.castLE (by decide))).val := by
  unfold chosen Host.topK Host.sort2
  pointwise
  refine (congrArg (fun k : Fin 64 => BitVec.ofNat 32
    (((ix2 t (r.castLE (by decide) : Fin 64) : S16384x64.Idx).along (1 : Fin 2) k) (1 : Fin 2)).val)
    (sorted_row Q t (r.castLE (by decide)))).trans ?_
  rw [along_row]
  rfl

/-! ## The softmax -/

variable (H : FVec Ideal S16384x2048 .f32) (W : FVec Ideal S64x2048 .f32)

/-- The product of the tokens and the transposed weight. -/
def product : FVec Ideal S16384x64 .f32 :=
  Host.dotGeneral dot_S16384x2048_S2048x64_S16384x64_1_0_0_1_n_n none H (transpose S2048x64 [1, 0] W transposes_S64x2048_S2048x64_1_0)

/-- It holds every token's logits. -/
theorem product_apply (t : Fin 16384) (e : Fin 64) : product H W (ix2 t e) = logit H W t e := by
  unfold product
  pointwise
  rfl

/-- The exponentials of a row's entries, each less the row's greatest. -/
def powers (A : FVec Ideal S16384x64 .f32) : FVec Ideal S16384x64 .f32 :=
  Host.exp (subf A (broadcastInDim S16384x64 ![0, 1] bcast_S16384x1_S16384x64_0_1
    (broadcastInDim S16384x1 ![0] bcast_S16384_S16384x1_0
      (maximumf (broadcastInDim S16384 ![] bcast_S_S16384 (constant S_ .f32 0xFF800000#32))
        (Host.reduce FloatOps.maximumf A (constant S_ .f32 0xFF800000#32) reducesTo_S16384x64_S16384_d1 h_S_)))))

/-- Entry by entry. -/
theorem powers_apply (A : FVec Ideal S16384x64 .f32) (t : Fin 16384) (e : Fin 64) :
    powers A (ix2 t e) = Ideal.exp (A (ix2 t e) - top fun k => A (ix2 t k)) := by
  unfold powers
  pointwise
  rw [Rounds.neg_inf, max_eq_right bot_le]
  rfl

/-- The softmax of every row. -/
def softmax (A : FVec Ideal S16384x64 .f32) : FVec Ideal S16384x64 .f32 :=
  Host.divf (powers A) (broadcastInDim S16384x64 ![0, 1] bcast_S16384x1_S16384x64_0_1
    (broadcastInDim S16384x1 ![0] bcast_S16384_S16384x1_0
      (Host.reduceAdd (powers A) (constant S_ .f32 0x00000000#32) reducesTo_S16384x64_S16384_d1 h_S_)))

/-- Entry by entry. -/
theorem softmax_apply (A : FVec Ideal S16384x64 .f32) (t : Fin 16384) (e : Fin 64) :
    softmax A (ix2 t e) = score (fun k => A (ix2 t k)) e := by
  unfold softmax
  pointwise
  simp only [powers_apply]
  rfl

/-! ## The two results -/

/-- The numbers of every token's eight experts. -/
def indices : IVec S16384x8 32 := (chosen (softmax (product H W))).2

/-- Their scores, each over the sum of the token's eight and a small constant. -/
def weights : FVec Ideal S16384x8 .f32 :=
  Host.divf (chosen (softmax (product H W))).1 (broadcastInDim S16384x8 ![0, 1] bcast_S16384x1_S16384x8_0_1
    (addf
      (broadcastInDim S16384x1 ![0] bcast_S16384_S16384x1_0
        (Host.reduceAdd (chosen (softmax (product H W))).1 (constant S_ .f32 0x00000000#32) reducesTo_S16384x8_S16384_d1 h_S_))
      (broadcastInDim S16384x1 ![] bcast_S_S16384x1 (constant S_ .f32 0x1E3CE508#32))))

/-- A row of the softmax of the product is the softmax of the token's logits. -/
theorem row (t : Fin 16384) : (fun e => softmax (product H W) (ix2 t e)) = score (logit H W t) := by
  funext e
  rw [softmax_apply]
  exact congrArg (fun L => score L e) (funext fun k => product_apply H W t k)

/-- The number at token `t` and rank `r`. -/
theorem indices_apply (t : Fin 16384) (r : Fin 8) : indices H W (ix2 t r) = expert (logit H W t) r := by
  unfold indices expert
  rw [chosen_place, row]

/-- The score at token `t` and rank `r`. -/
theorem best_apply (t : Fin 16384) (r : Fin 8) :
    (chosen (softmax (product H W))).1 (ix2 t r) = best (logit H W t) r := by
  rw [chosen_value]
  exact (congrFun (row H W t) _).trans (by rw [row]; rfl)

/-- The share at token `t` and rank `r`. -/
theorem weights_apply (t : Fin 16384) (r : Fin 8) : weights H W (ix2 t r) = share (logit H W t) r := by
  unfold weights
  pointwise
  simp only [best_apply]
  rfl

end Cert.Reference

end
-- ==== Proof.Tail.lean ====
/- The kernel's run, read at its two results. After the grid's last point the kernel's two arrays are transposed, and nothing
   else is written: each result is one of those arrays with its axes exchanged. -/
module

public import proofs.«01_k».proof.Proof.Gen.KernelIdeal.Frame
public import Idealize.ShloMosaic.Lib.Claim
public import Idealize.ShloMosaic.PureOps.Ideal

@[expose] public section

set_option maxRecDepth 16384

noncomputable section

namespace Cert.Tail

open Idealize.ShloMosaic Idealize.ShloMosaic.TcCoe Idealize.SL.Sem Cert.KernelIdeal Cert.KernelIdeal.Gen

variable (m : (ℓ : Loc nD τ sig) → Buf (Elt Ideal) ℓ) (c : Dev nD)

/-- After the grid's last point the array of every window holds what the grid left in it. Only the two windows over the tokens
    share an array, and the kernel reads that one without writing it. -/
theorem array_of (w : Fin 5) :
    Pipeline.withArrays (τ := τ) (Val := Elt Ideal) spec0 c (V0 m c) (fun w => (dats m 0 c).arrAt w (cfgs 0).N)
      (Proc.devRef .tc (Pipeline.arrRef spec0 w)) = (dats m 0 c).arrAt w (cfgs 0).N := by
  refine Pipeline.withArrays_arr_shared spec0 c (V0 m c) _ (fun w w' hne he => ?_) w
  have hw : w = 0 ∨ w = 1 :=
    (by decide : ∀ w w' : Fin 5, w ≠ w' → Pipeline.arrRef spec0 w = Pipeline.arrRef spec0 w' → w = 0 ∨ w = 1) w w' hne he
  rcases hw with rfl | rfl
  · exact ((dats m 0 c).arrAt_in 0 rfl _).trans (A_eq m c 0)
  · exact ((dats m 0 c).arrAt_in 1 rfl _).trans (A_eq m c 1)

/-- The first result is the array of expert numbers, transposed. -/
theorem indices_eq : Pipeline.afterTail₀ cfgs (dats m) 0 (V0 m) [hostOps1] c main_v2
    = transpose S16384x8 [1, 0] ((dats m 0 c).arrAt 3 (cfgs 0).N) transposes_S8x16384_S16384x8_1_0 := by
  unfold Pipeline.afterTail₀
  simp only [List.flatten_cons, List.flatten_nil, List.append_nil]
  after_results
  exact congrArg (fun x => transpose S16384x8 [1, 0] x transposes_S8x16384_S16384x8_1_0) (array_of m c 3)

/-- The second result is the array of weights, transposed. -/
theorem weights_eq : Pipeline.afterTail₀ cfgs (dats m) 0 (V0 m) [hostOps1] c main_v3
    = transpose S16384x8 [1, 0] ((dats m 0 c).arrAt 4 (cfgs 0).N) transposes_S8x16384_S16384x8_1_0 := by
  unfold Pipeline.afterTail₀
  simp only [List.flatten_cons, List.flatten_nil, List.append_nil]
  after_results
  exact congrArg (fun x => transpose S16384x8 [1, 0] x transposes_S8x16384_S16384x8_1_0) (array_of m c 4)

/-- Every execution of the kernel ends with its two results at those transposes and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v2)
          = transpose S16384x8 [1, 0] ((dats m 0 c).arrAt 3 (cfgs 0).N) transposes_S8x16384_S16384x8_1_0
      ∧ r.2.mem ((c.tc : Thread nD τ).loc main_v3)
          = transpose S16384x8 [1, 0] ((dats m 0 c).arrAt 4 (cfgs 0).N) transposes_S8x16384_S16384x8_1_0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).2 main_v2 (Pipeline.mem_restRefs_of main_v2 (by decide) (by decide))).trans (indices_eq m c),
        ((h.1 c).2 main_v3 (Pipeline.mem_restRefs_of main_v3 (by decide) (by decide))).trans (weights_eq m c),
        (h.2 c).1, (h.2 c).2⟩)
    (θ_run_and (run_main m ρ) (unchanged m ρ))

end Cert.Tail

end
-- ==== Proof.lean ====
/- The certificate: the kernel, its reading on the extended reals and the reference each end with their arguments as they were
   and every counter at zero, and on the extended reals the kernel and the reference end with the same two results wherever no
   entry of either argument is infinite. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Finite
public import proofs.«01_k».proof.Proof.Reference
public import proofs.«01_k».proof.Proof.Tail
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-! ## The reference's frame -/

/-- The reference ends with its arguments as they were, and it declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r h => ⟨fun c => (h c).2.2, sem_eq_zero_of_no_sems (by decide) r.2⟩)
    (Cert.ReferenceIdeal.Value.run (F := Ideal) m ρ)

/-! ## The two results -/

section Results

open Cert.KernelIdeal Cert.Arrays

variable (m : (ℓ : Loc nD τ sig) → Buf (Elt Ideal) ℓ) (c : Dev nD)

/-- An index of a result is a token and a rank. -/
theorem token_rank (j : S16384x8.Idx) : ∃ (t : Fin 16384) (r : Fin 8), j = ix2 t r := ⟨j 0, j 1, by blk_ext⟩

/-- The kernel's numbers, transposed, are the reference's. -/
theorem numbers_eq : transpose S16384x8 [1, 0] (numbers m c) Cert.KernelIdeal.Gen.transposes_S8x16384_S16384x8_1_0
    = Cert.Reference.indices (tokens m c) (weight m c) := by
  funext j
  obtain ⟨t, r, rfl⟩ := token_rank j
  refine Eq.trans ?_ (Cert.Reference.indices_apply (tokens m c) (weight m c) t r).symm
  pointwise
  rfl

/-- The kernel's shares, transposed, are the reference's. -/
theorem portions_eq : transpose S16384x8 [1, 0] (portions m c) Cert.KernelIdeal.Gen.transposes_S8x16384_S16384x8_1_0
    = Cert.Reference.weights (tokens m c) (weight m c) := by
  funext j
  obtain ⟨t, r, rfl⟩ := token_rank j
  refine Eq.trans ?_ (Cert.Reference.weights_apply (tokens m c) (weight m c) t r).symm
  pointwise
  rfl

end Results

/-- Wherever no entry of either argument is infinite, kernel and reference end with the same two results. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have hX : ∀ c i, ∃ a : ℝ, Cert.Arrays.tokens m c i = (a : EReal) := fun c i =>
    (Cert.Finite.reals (hPre := Cert.Finite.facts) _ _ (hpre c)).1 _
  have hW : ∀ c i, ∃ a : ℝ, Cert.Arrays.weight m c i = (a : EReal) := fun c i =>
    (Cert.Finite.reals (hPre := Cert.Finite.facts) _ _ (hpre c)).2 i
  refine ⟨fun c => Cert.Reference.indices (Cert.Arrays.tokens m c) (Cert.Arrays.weight m c),
    fun c => Cert.Reference.weights (Cert.Arrays.tokens m c) (Cert.Arrays.weight m c), ?_, ?_⟩
  · refine (θ_run _ _ _).mono (fun r h c => ?_) (Cert.Tail.run m g)
    obtain ⟨h2, h3, h0, h1⟩ := h c
    rw [Cert.Arrays.final3 m c (hX c) (hW c)] at h2
    rw [Cert.Arrays.final4 m c (hX c) (hW c)] at h3
    exact ⟨h2.trans (numbers_eq m c), h3.trans (portions_eq m c), h0, h1⟩
  · refine (θ_run _ _ _).mono (fun r h c => ?_) (Cert.ReferenceIdeal.Value.run (F := Ideal) m' g')
    obtain ⟨hi, hv, h0, h1⟩ := h c
    obtain ⟨e0, e1⟩ := hagree c
    refine ⟨hi.trans ?_, hv.trans ?_, h0, h1⟩
    · rw [e0, e1]
      rfl
    · unfold Cert.ReferenceIdeal.Value.res_main_v19
      rw [e0, e1]
      rfl

/-- All the claims together. -/
theorem claim : Cert.Claim :=
  ⟨Cert.Kernel.Gen.facts, Cert.KernelIdeal.Gen.facts, Cert.ReferenceIdeal.Gen.facts, Cert.Finite.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    algebraic⟩

end Cert.Proof

end
